-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S6144x2048 : Shape := ⟨2, ![6144, 2048]⟩
abbrev S16x384x2048 : Shape := ⟨3, ![16, 384, 2048]⟩
abbrev S16x4096x128 : Shape := ⟨3, ![16, 4096, 128]⟩
abbrev S512x2048 : Shape := ⟨2, ![512, 2048]⟩
abbrev S1x384x2048 : Shape := ⟨3, ![1, 384, 2048]⟩
abbrev S16x512x128 : Shape := ⟨3, ![16, 512, 128]⟩
abbrev S8x512x128 : Shape := ⟨3, ![8, 512, 128]⟩
abbrev S384x2048 : Shape := ⟨2, ![384, 2048]⟩
abbrev S3072x2048 : Shape := ⟨2, ![3072, 2048]⟩
abbrev S512x3072 : Shape := ⟨2, ![512, 3072]⟩
abbrev S512x128 : Shape := ⟨2, ![512, 128]⟩
abbrev S1x512x128 : Shape := ⟨3, ![1, 512, 128]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S6144x2048, .f32⟩
  | .hbm, ⟨2, _⟩ => ⟨S16x384x2048, .f32⟩
  | .hbm, ⟨3, _⟩ => ⟨S16x4096x128, .f32⟩
  | .hbm, ⟨4, _⟩ => ⟨S16x4096x128, .f32⟩
  | .hbm, ⟨5, _⟩ => ⟨S16x4096x128, .f32⟩
  | .local _ .vmem, ⟨0, _⟩ => ⟨S512x2048, .f32⟩
  | .local _ .vmem, ⟨1, _⟩ => ⟨S512x2048, .f32⟩
  | .local _ .vmem, ⟨2, _⟩ => ⟨S1x384x2048, .f32⟩
  | .local _ .vmem, ⟨3, _⟩ => ⟨S1x384x2048, .f32⟩
  | .local _ .vmem, ⟨4, _⟩ => ⟨S16x512x128, .f32⟩
  | .local _ .vmem, ⟨5, _⟩ => ⟨S16x512x128, .f32⟩
  | .local _ .vmem, ⟨6, _⟩ => ⟨S8x512x128, .f32⟩
  | .local _ .vmem, ⟨7, _⟩ => ⟨S8x512x128, .f32⟩
  | .local _ .vmem, ⟨8, _⟩ => ⟨S16x512x128, .f32⟩
  | .local _ .vmem, ⟨9, _⟩ => ⟨S16x512x128, .f32⟩
  | .local _ .vmem, ⟨10, _⟩ => ⟨S6144x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c384_i32 : BitVec 32 := 384#32
  let v14 : BitVec 32 := Scalar.muli arg0 c384_i32
  let v15 : Index := Scalar.indexCast v14
  let c0_6 : Index := 0#32
  ![v15.toNat, 0]
def k0_cond2 (i : grid0.Coords) : BitVec 1 :=
  let arg0 : BitVec 32 := BitVec.ofNat 32 (i 0).val
  let c8_i32 : BitVec 32 := 8#32
  let v3 : BitVec 1 := Scalar.cmpi .sge arg0 c8_i32
  let c16_i32_0 : BitVec 32 := 16#32
  let v4 : BitVec 1 := Scalar.cmpi .slt arg0 c16_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c16_i32_2 : BitVec 32 := 16#32
  let v8 : BitVec 1 := Scalar.cmpi .sge arg0 c16_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c8_i32_1 : BitVec 32 := 8#32
  let c0_i32 : BitVec 32 := 0#32
  let v2 : BitVec 1 := Scalar.cmpi .eq c8_i32_1 c0_i32
  let c1_i32 : BitVec 32 := 1#32
  let v3 : BitVec 32 := Scalar.select v2 c1_i32 c8_i32_1
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let v12 : BitVec 32 := Scalar.select v0 c0_i32_5 v11
  let c0_i32_6 : BitVec 32 := 0#32
  let c0_i32_7 : BitVec 32 := 0#32
  ![v12.toNat, c0_i32_6.toNat]

def cc0_transform_1 (i : grid0.Coords) : Fin 3 → Nat :=
  let arg0 : BitVec 32 := BitVec.ofNat 32 (i 0).val
  let c0_i32 : BitVec 32 := 0#32
  let c15_i32 : BitVec 32 := 15#32
  let v0 : BitVec 32 := Scalar.maxsi c0_i32 arg0
  let v1 : BitVec 32 := Scalar.minsi c15_i32 v0
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c16_i32 : BitVec 32 := 16#32
  let v0 : BitVec 1 := Scalar.cmpi .slt arg0 c16_i32
  let c0_i32 : BitVec 32 := 0#32
  let c1_i32 : BitVec 32 := 1#32
  let v1 : BitVec 32 := Scalar.select v0 c0_i32 c1_i32
  let c16_i32_0 : BitVec 32 := 16#32
  let v2 : BitVec 1 := Scalar.cmpi .slt arg0 c16_i32_0
  let c8_i32 : BitVec 32 := 8#32
  let v3 : BitVec 32 := Scalar.subi arg0 c8_i32
  let c0_i32_1 : BitVec 32 := 0#32
  let c7_i32 : BitVec 32 := 7#32
  let v4 : BitVec 32 := Scalar.maxsi c0_i32_1 v3
  let v5 : BitVec 32 := Scalar.minsi c7_i32 v4
  let c16_i32_2 : BitVec 32 := 16#32
  let v6 : BitVec 32 := Scalar.subi arg0 c16_i32_2
  let c0_i32_3 : BitVec 32 := 0#32
  let c7_i32_4 : BitVec 32 := 7#32
  let v7 : BitVec 32 := Scalar.maxsi c0_i32_3 v6
  let v8 : BitVec 32 := Scalar.minsi c7_i32_4 v7
  let v9 : BitVec 32 := Scalar.select v2 v5 v8
  let c0_i32_5 : BitVec 32 := 0#32
  let c0_i32_6 : BitVec 32 := 0#32
  ![v1.toNat, v9.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![c0_i32_0.toNat, v2.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩
abbrev S4096x4096 : Shape := ⟨2, ![4096, 4096]⟩
abbrev S4096x2x16x128 : Shape := ⟨4, ![4096, 2, 16, 128]⟩
abbrev S2x16x4096x128 : Shape := ⟨4, ![2, 16, 4096, 128]⟩
abbrev S1x16x4096x128 : Shape := ⟨4, ![1, 16, 4096, 128]⟩
abbrev S16x4096x128 : Shape := ⟨3, ![16, 4096, 128]⟩
abbrev S4096x16x128 : Shape := ⟨3, ![4096, 16, 128]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S6144x2048, .f32⟩
  | .hbm, ⟨2, _⟩ => ⟨S2048x6144, .f32⟩
  | .hbm, ⟨3, _⟩ => ⟨S4096x6144, .f32⟩
  | .hbm, ⟨4, _⟩ => ⟨S4096x4096, .f32⟩
  | .hbm, ⟨5, _⟩ => ⟨S4096x2x16x128, .f32⟩
  | .hbm, ⟨6, _⟩ => ⟨S2x16x4096x128, .f32⟩
  | .hbm, ⟨7, _⟩ => ⟨S1x16x4096x128, .f32⟩
  | .hbm, ⟨8, _⟩ => ⟨S16x4096x128, .f32⟩
  | .hbm, ⟨9, _⟩ => ⟨S1x16x4096x128, .f32⟩
  | .hbm, ⟨10, _⟩ => ⟨S16x4096x128, .f32⟩
  | .hbm, ⟨11, _⟩ => ⟨S4096x2048, .f32⟩
  | .hbm, ⟨12, _⟩ => ⟨S4096x16x128, .f32⟩
  | .hbm, ⟨13, _⟩ => ⟨S16x4096x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Proof.Heads.lean ====
/- What the stores of one block product leave: the 512 × 3072 product of a block of rows is cut along its columns into
   pieces of 128 (one per head), and head `k` is stored as slab `k` of the staging buffer; and what the stores of the weights' row chunks leave in the scratch. -/
module

public import proofs.«01_k».proof.Proof.Gen.KernelIdeal.Skeleton
public import Idealize.ShloMosaic.Lib.Pipeline.Value
public import Idealize.ShloMosaic.Lib.ValueIdxCore

@[expose] public section

noncomputable section

namespace Cert.KernelIdeal.QKV

open Idealize.ShloMosaic Idealize.ShloMosaic.TcCoe Idealize.ShloMosaic.ValueIdx

/-- The shape of `H` heads of one block of rows. -/
abbrev slabs (H : ℕ) : Shape := ⟨3, ![H, 512, 128]⟩

/-- The columns `o`, `o + 1`, … of a block product, cut into `H` heads of 128 columns: entry `(k, r, d)` is row `r`,
    column `o + 128 k + d`. -/
def headsOf {α : Type} (H o : ℕ) (hH : o + 128 * H ≤ 3072) (acc : S512x3072.Idx → α) : (slabs H).Idx → α := fun y =>
  acc (ix2 (⟨(y 1).val, (y 1).isLt⟩ : Fin 512)
    (⟨o + 128 * (y 0).val + (y 2).val, by
      have h0 : (y 0).val < H := (y 0).isLt
      have h2 : (y 2).val < 128 := (y 2).isLt
      omega⟩ : Fin 3072))

/-- One stored slab is the slab of `headsOf` at its place: the columns from `c = o + 128 k` on, as a 1 × 512 × 128
    block, are slab `k`. -/
theorem slab_apply {α : Type} (H o : ℕ) (hH : o + 128 * H ≤ 3072) (acc : S512x3072.Idx → α) (k c : ℕ)
    (hc : c = o + 128 * k) (hs : S512x3072.Slices ![0, c] S512x128) (hcast : S512x128.ShapeCasts S1x512x128)
    (inb : ∀ a, (![k, 0, 0] : Fin 3 → ℕ) a + S1x512x128.size a ≤ (slabs H).size a) (x : S1x512x128.Idx) :
    shapeCast S1x512x128 (extractStridedSlice S512x128 ![0, c] acc hs) hcast x
      = headsOf H o hH acc ((Rect.unit (s := slabs H) ![k, 0, 0] S1x512x128.size inb).emb x) := by
  have h0 : (x 0).val < 1 := (x 0).isLt
  refine (shapeCast_apply _ hcast x (ix2 (⟨(x 1).val, (x 1).isLt⟩ : Fin 512) (⟨(x 2).val, (x 2).isLt⟩ : Fin 128)) ?_).trans ?_
  · rw [Shape.rowMajor_val_two, Shape.rowMajor_val_three]
    show (x 1).val * 128 + (x 2).val = ((x 0).val * 512 + (x 1).val) * 128 + (x 2).val
    omega
  · refine extractStridedSlice_apply _ acc hs _ _ fun a => ?_
    match a with
    | ⟨0, _⟩ => show 0 + 1 * (x 1).val = 0 + (x 1).val; omega
    | ⟨1, _⟩ => show o + 128 * (k + 1 * (x 0).val) + (0 + 1 * (x 2).val) = c + (x 2).val; omega

/-- The same for a stored piece that is such a slab. -/
theorem slab_piece {Val : EltTy → Type} {e : EltTy} (H o : ℕ) (hH : o + 128 * H ≤ 3072) {k : ℕ}
    {acc : S512x3072.Idx → Val e} {p : View.Piece Val (slabs H) e}
    (inb : ∀ a, (![k, 0, 0] : Fin 3 → ℕ) a + S1x512x128.size a ≤ (slabs H).size a)
    (hs : S512x3072.Slices ![0, o + 128 * k] S512x128) (hcast : S512x128.ShapeCasts S1x512x128)
    (hp : p = ⟨Rect.unit (s := slabs H) ![k, 0, 0] S1x512x128.size inb,
      shapeCast S1x512x128 (extractStridedSlice S512x128 ![0, o + 128 * k] acc hs) hcast⟩) (x : p.1.shape.Idx) :
    p.2 x = headsOf H o hH acc (p.1.emb x) := by
  subst hp; exact slab_apply H o hH acc k _ rfl hs hcast inb x

/-- Entry `y` lies in slab `k` exactly when its head is `k`. -/
theorem mem_slab (H k : ℕ) (inb : ∀ a, (![k, 0, 0] : Fin 3 → ℕ) a + S1x512x128.size a ≤ (slabs H).size a) (y : (slabs H).Idx) :
    y ∈ (Rect.unit (s := slabs H) ![k, 0, 0] S1x512x128.size inb).set ↔ (y 0).val = k := by
  rw [Rect.mem_set_unit]
  have h1 : (y 1).val < 512 := (y 1).isLt
  have h2 : (y 2).val < 128 := (y 2).isLt
  constructor
  · intro h
    have h0 : k ≤ (y 0).val ∧ (y 0).val < k + 1 := h 0
    omega
  · intro h a
    match a with
    | ⟨0, _⟩ => show k ≤ (y 0).val ∧ (y 0).val < k + 1; omega
    | ⟨1, _⟩ => show 0 ≤ (y 1).val ∧ (y 1).val < 0 + 512; omega
    | ⟨2, _⟩ => show 0 ≤ (y 2).val ∧ (y 2).val < 0 + 128; omega

/-- Stores whose payloads are all slabs of one product, and which together reach every slab, leave `headsOf` of that
    product, whatever the buffer held before. -/
theorem read_slabs {Val : EltTy → Type} {sig : RefSig} {κ : Kind} {sp : Space} {e : EltTy} (H o : ℕ) (hH : o + 128 * H ≤ 3072)
    (v : View sig κ sp (slabs H) e) (f : v.ty.Contents Val) (acc : S512x3072.Idx → Val e) (L : List (View.Piece Val (slabs H) e))
    (hL : ∀ p ∈ L, ∀ x : p.1.shape.Idx, p.2 x = headsOf H o hH acc (p.1.emb x))
    (hcov : ∀ y : (slabs H).Idx, ∃ p ∈ L, y ∈ p.1.set) : v.read Val (v.writes Val f L) = headsOf H o hH acc :=
  funext fun y => View.read_writes_apply_of_pieces v f _ L hL y (hcov y)

/-! ## The scratch: the weights row chunk by row chunk -/

/-- The first `n` chunks of 384 rows of `a` are those of `wb`. -/
def Filled {α : Type} (wb : S6144x2048.Idx → α) (n : ℕ) (a : S6144x2048.Idx → α) : Prop :=
  ∀ y : S6144x2048.Idx, (y 0).val < 384 * n → a y = wb y

/-- 3072 rows of `wb`, from row `o` on. -/
def rowsFrom {α : Type} (o : ℕ) (ho : o + 3072 ≤ 6144) (wb : S6144x2048.Idx → α) : S3072x2048.Idx → α := fun y =>
  wb (ix2 (⟨o + (y 0).val, by have h : (y 0).val < 3072 := (y 0).isLt; omega⟩ : Fin 6144)
    (⟨(y 1).val, (y 1).isLt⟩ : Fin 2048))

/-- Storing chunk `n` of `wb` over a scratch whose first `n` chunks are `wb`'s leaves one whose first `n + 1` are. -/
theorem Filled.store {Val : EltTy → Type} {sig : RefSig} {κ : Kind} {sp : Space} {e : EltTy}
    (v : View sig κ sp S6144x2048 e) (f : v.ty.Contents Val) {wb : S6144x2048.Idx → Val e} {n : ℕ} {off : Fin 2 → ℕ}
    (hoff : off = ![384 * n, 0]) (inb : ∀ a, off a + S384x2048.size a ≤ S6144x2048.size a) (w : S384x2048.Idx → Val e)
    (hf : Filled wb n (v.read Val f)) (hw : ∀ x, w x = wb ((Rect.unit (s := S6144x2048) off S384x2048.size inb).emb x)) :
    Filled wb (n + 1) (v.read Val (v.writes Val f [⟨Rect.unit (s := S6144x2048) off S384x2048.size inb, w⟩])) := by
  intro y hy
  by_cases hm : y ∈ (Rect.unit (s := S6144x2048) off S384x2048.size inb).set
  · exact View.read_writes_apply_of_pieces v f wb _ (fun p hp => by
      obtain rfl := List.mem_singleton.mp hp; exact hw) y ⟨_, List.mem_singleton_self _, hm⟩
  · rw [View.read_writes_apply_of_forall_not_mem v f y _ (fun p hp => by
      obtain rfl := List.mem_singleton.mp hp; exact hm)]
    refine hf y ?_
    by_contra hlt
    refine hm (Rect.mem_set_unit.mpr fun a => ?_)
    subst hoff
    match a with
    | ⟨0, _⟩ => show 384 * n ≤ (y 0).val ∧ (y 0).val < 384 * n + 384; omega
    | ⟨1, _⟩ => exact ⟨Nat.zero_le _, by have h : (y 1).val < 2048 := (y 1).isLt; show (y 1).val < 0 + 2048; omega⟩

/-- A load of 3072 rows that have all been stored reads the rows of `wb`. -/
theorem Filled.load {Val : EltTy → Type} {sig : RefSig} {κ : Kind} {sp : Space} {e : EltTy}
    (v : View sig κ sp S6144x2048 e) (f : v.ty.Contents Val) {wb : S6144x2048.Idx → Val e} {n : ℕ} (o : ℕ) (ho : o + 3072 ≤ 6144)
    (inb : ∀ a, (![o, 0] : Fin 2 → ℕ) a + S3072x2048.size a ≤ S6144x2048.size a)
    (hf : Filled wb n (v.read Val f)) (hn : o + 3072 ≤ 384 * n) :
    v.readAt Val (Rect.unit (s := S6144x2048) ![o, 0] S3072x2048.size inb).toLoadRect f = rowsFrom o ho wb := by
  funext y
  have h0 : (y 0).val < 3072 := (y 0).isLt
  rw [View.readAt_eq_ld]
  refine (hf _ ?_).trans (congrArg wb (funext fun a => Fin.ext ?_))
  · show o + 1 * (y 0).val < 384 * n; omega
  · match a with
    | ⟨0, _⟩ => show o + 1 * (y 0).val = o + (y 0).val; omega
    | ⟨1, _⟩ => show 0 + 1 * (y 1).val = (y 1).val; omega

end Cert.KernelIdeal.QKV

end
-- ==== Proof.BodyA.lean ====
/-
  The body at a point of the first sweep (t < 8): one chunk of the weights goes to the scratch, nothing else changes.
-/
module

public import proofs.«01_k».proof.Proof.Heads
public import proofs.«01_k».proof.Proof.Gen.KernelIdeal.Frame

@[expose] public section

set_option maxRecDepth 16384

noncomputable section

namespace Cert.KernelIdeal.QKV

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A point of the first sweep: with the first `n` chunks of the weights in the scratch, the body stores chunk `n` there
    and leaves the three results' staging buffers as they were. -/
theorem run_A (c : Dev nD) (i : grid0.Coords) (arg1 : Memref sig .tc .vmem S512x2048 .f32) (harg1 : arg1.IsWhole) (arg2 : Memref sig .tc .vmem S1x384x2048 .f32) (harg2 : arg2.IsWhole) (arg3 : Memref sig .tc .vmem S16x512x128 .f32) (harg3 : arg3.IsWhole) (arg4 : Memref sig .tc .vmem S8x512x128 .f32) (harg4 : arg4.IsWhole) (arg5 : Memref sig .tc .vmem S16x512x128 .f32) (harg5 : arg5.IsWhole) (arg6 : Memref sig .tc .vmem S6144x2048 .bf16) (harg6 : arg6.IsWhole)
    (hc0 : k0_cond1 i = 1#1) (hc1 : ¬k0_cond2 i = 1#1) (hc2 : ¬k0_cond3 i = 1#1)
    (x0 : Vec F S512x2048 .f32) (x1 : Vec F S1x384x2048 .f32) (d2 : Vec F S16x512x128 .f32) (d3 : Vec F S8x512x128 .f32) (d4 : Vec F S16x512x128 .f32) (a : Vec F S6144x2048 .bf16)
    (wb : S6144x2048.Idx → Elt F .bf16) (n : ℕ) (hoff : k0_off1 i = ![384 * n, 0]) (ha : Filled wb n a)
    (hx1 : ∀ x, k0_pay1 x1 x = wb ((Rect.unit (s := S6144x2048) (k0_off1 i) S384x2048.size (k0_off1_inb i hc0)).emb x)) :
      ∀ (E : Set ℕ) (K : PUnit → sProp 𝕄),
        iprop(owns (c : Thread nD τ) arg1 fullShare x0 ∗ owns (c : Thread nD τ) arg2 fullShare x1 ∗ owns (c : Thread nD τ) arg3 fullShare d2 ∗ owns (c : Thread nD τ) arg4 fullShare d3 ∗ owns (c : Thread nD τ) arg5 fullShare d4 ∗ owns (c : Thread nD τ) arg6 fullShare a
            ∗ (iprop(owns (c : Thread nD τ) arg1 fullShare x0 ∗ owns (c : Thread nD τ) arg2 fullShare x1
              ∗ owns (c : Thread nD τ) arg3 fullShare d2 ∗ owns (c : Thread nD τ) arg4 fullShare d3
              ∗ owns (c : Thread nD τ) arg5 fullShare d4 ∗ (∃ a', ⌜Filled wb (n + 1) a'⌝ ∗ owns (c : Thread nD τ) arg6 fullShare a')) -∗ K ⟨⟩))
          ⊢ wp frame (wpE (defs₀ (F := F)) Variants.none c none) E (cc0__qkv_body i arg1 harg1 arg2 harg2 arg3 harg3 arg4 harg4 arg5 harg5 arg6 harg6) K := by
    intro E K
    simp only [cc0__qkv_body_eq_skeleton]; unfold cc0__qkv_body_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf1
    sl_exec (disch := first | sl_exact hc0 | sl_exact hc1 | sl_exact hc2)
    sl_step
    iapply Hk
    have hY : View.readAt (Elt F) arg2.view (Rect.unit (s := S1x384x2048) ![0, 0, 0] S1x384x2048.size inb_S1x384x2048_S1x384x2048_0_0_0).toLoadRect (harg2.unread x1) = x1 := by
      rw [View.readAt_eq_ld, harg2.read_unread, View.ld_unit_zero (by decide)]
    have hS := Filled.store arg6.view fs0 hoff (k0_off1_inb i hc0) (k0_pay1 (View.readAt (Elt F) arg2.view (Rect.unit (s := S1x384x2048) ![0, 0, 0] S1x384x2048.size inb_S1x384x2048_S1x384x2048_0_0_0).toLoadRect (harg2.unread x1))) (hfs0 ▸ ha) (by rw [hY]; exact hx1)
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap
    · iexists _; isplitr; swap; · iexact HS0
      ipureintro; rfl
    ipureintro; exact hS

end Cert.KernelIdeal.QKV

end
-- ==== Proof.BodyB.lean ====
/-
  The body at a point of the second sweep (8 ≤ t < 16): one more chunk of the weights goes to the scratch, and the first
  half of the projections is computed for one block of rows of `x`.
-/
module

public import proofs.«01_k».proof.Proof.Heads
public import proofs.«01_k».proof.Proof.Gen.KernelIdeal.Frame

@[expose] public section

set_option maxRecDepth 16384

noncomputable section

namespace Cert.KernelIdeal.QKV

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A point of the second sweep: with the first `n ≥ 8` chunks of the weights in the scratch, the body stores chunk `n`
    there, multiplies the block of `x` by the first 3072 rows of the scratch, and stores the 16 heads of the query and
    the first 8 heads of the key; the value's staging buffer is left as it was. -/
theorem run_B (c : Dev nD) (i : grid0.Coords) (arg1 : Memref sig .tc .vmem S512x2048 .f32) (harg1 : arg1.IsWhole) (arg2 : Memref sig .tc .vmem S1x384x2048 .f32) (harg2 : arg2.IsWhole) (arg3 : Memref sig .tc .vmem S16x512x128 .f32) (harg3 : arg3.IsWhole) (arg4 : Memref sig .tc .vmem S8x512x128 .f32) (harg4 : arg4.IsWhole) (arg5 : Memref sig .tc .vmem S16x512x128 .f32) (harg5 : arg5.IsWhole) (arg6 : Memref sig .tc .vmem S6144x2048 .bf16) (harg6 : arg6.IsWhole)
    (hc0 : k0_cond1 i = 1#1) (hc1 : k0_cond2 i = 1#1) (hc2 : ¬k0_cond3 i = 1#1)
    (x0 : Vec F S512x2048 .f32) (x1 : Vec F S1x384x2048 .f32) (d4 : Vec F S16x512x128 .f32) (a : Vec F S6144x2048 .bf16)
    (wb : S6144x2048.Idx → Elt F .bf16) (n : ℕ) (hn : 8 ≤ n) (hoff : k0_off1 i = ![384 * n, 0]) (ha : Filled wb n a)
    (hx1 : ∀ x, k0_pay1 x1 x = wb ((Rect.unit (s := S6144x2048) (k0_off1 i) S384x2048.size (k0_off1_inb i hc0)).emb x)) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare d4 ∗ owns (c : Thread nD τ) arg6 fullShare a
            ∗ (iprop(owns (c : Thread nD τ) arg1 fullShare x0 ∗ owns (c : Thread nD τ) arg2 fullShare x1
              ∗ owns (c : Thread nD τ) arg3 fullShare (headsOf 16 0 (by omega) (k0_pay8 x0 (rowsFrom 0 (by omega) wb)))
              ∗ owns (c : Thread nD τ) arg4 fullShare (headsOf 8 2048 (by omega) (k0_pay8 x0 (rowsFrom 0 (by omega) wb)))
              ∗ owns (c : Thread nD τ) arg5 fullShare d4 ∗ (∃ a', ⌜Filled wb (n + 1) a'⌝ ∗ owns (c : Thread nD τ) arg6 fullShare a')) -∗ K ⟨⟩))
          ⊢ wp frame (wpE (defs₀ (F := F)) Variants.none c none) E (cc0__qkv_body i arg1 harg1 arg2 harg2 arg3 harg3 arg4 harg4 arg5 harg5 arg6 harg6) K := by
    intro E K
    simp only [cc0__qkv_body_eq_skeleton]; unfold cc0__qkv_body_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%fs0, %hfs0, HS0⟩, Hk⟩
    obtain rfl := harg1.eq_unread hf0; obtain rfl := harg2.eq_unread hf1
    sl_exec (disch := first | sl_exact hc0 | sl_exact hc1 | sl_exact hc2)
    sl_step
    iapply Hk
    have hX : View.readAt (Elt F) arg1.view (Rect.unit (s := S512x2048) ![0, 0] S512x2048.size inb_S512x2048_S512x2048_0_0).toLoadRect (harg1.unread x0) = x0 := by
      rw [View.readAt_eq_ld, harg1.read_unread, View.ld_unit_zero (by decide)]
    have hY : View.readAt (Elt F) arg2.view (Rect.unit (s := S1x384x2048) ![0, 0, 0] S1x384x2048.size inb_S1x384x2048_S1x384x2048_0_0_0).toLoadRect (harg2.unread x1) = x1 := by
      rw [View.readAt_eq_ld, harg2.read_unread, View.ld_unit_zero (by decide)]
    have hS := Filled.store arg6.view fs0 hoff (k0_off1_inb i hc0) (k0_pay1 (View.readAt (Elt F) arg2.view (Rect.unit (s := S1x384x2048) ![0, 0, 0] S1x384x2048.size inb_S1x384x2048_S1x384x2048_0_0_0).toLoadRect (harg2.unread x1))) (hfs0 ▸ ha) (by rw [hY]; exact hx1)
    have hW := Filled.load arg6.view _ 0 (by omega) inb_S6144x2048_S3072x2048_0_0 hS (by omega)
    have hacc := congrArg₂ k0_pay8 hX hW
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [← hacc]
      refine read_slabs 16 0 _ _ _ _ _ ?_ fun y => ?_
      · repeat' first
          | refine List.forall_mem_cons.mpr ⟨?_, ?_⟩
          | exact fun p hp => absurd hp List.not_mem_nil
          | exact slab_piece 16 0 (by omega) (by decide) (by decide) (by decide) rfl
      · have h : (y 0).val < 16 := (y 0).isLt
        simp only [List.exists_mem_cons_iff]
        simp only [mem_slab 16]
        omega
    isplitl [H3]
    · iexists _; isplitr; swap; · iexact H3
      ipureintro
      rw [← hacc]
      refine read_slabs 8 2048 _ _ _ _ _ ?_ fun y => ?_
      · repeat' first
          | refine List.forall_mem_cons.mpr ⟨?_, ?_⟩
          | exact fun p hp => absurd hp List.not_mem_nil
          | exact slab_piece 8 2048 (by omega) (by decide) (by decide) (by decide) rfl
      · have h : (y 0).val < 8 := (y 0).isLt
        simp only [List.exists_mem_cons_iff]
        simp only [mem_slab 8]
        omega
    isplitl [H4]
    · iexists _; isplitr; swap; · iexact H4
      ipureintro; exact hf4
    iexists _; isplitr; swap
    · iexists _; isplitr; swap; · iexact HS0
      ipureintro; rfl
    ipureintro; exact hS

end Cert.KernelIdeal.QKV

end
-- ==== Proof.BodyC.lean ====
/-
  The body at a point of the third sweep (16 ≤ t): the weights are all in the scratch, and the second half of the
  projections is computed for one block of rows of `x`.
-/
module

public import proofs.«01_k».proof.Proof.Heads
public import proofs.«01_k».proof.Proof.Gen.KernelIdeal.Frame

@[expose] public section

set_option maxRecDepth 16384

noncomputable section

namespace Cert.KernelIdeal.QKV

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- A point of the third sweep: with all the weights in the scratch, the body multiplies the block of `x` by the last 3072
    rows of the scratch, and stores the last 8 heads of the key and the 16 heads of the value; the query's staging buffer
    and the scratch are left as they were. -/
theorem run_C (c : Dev nD) (i : grid0.Coords) (arg1 : Memref sig .tc .vmem S512x2048 .f32) (harg1 : arg1.IsWhole) (arg2 : Memref sig .tc .vmem S1x384x2048 .f32) (harg2 : arg2.IsWhole) (arg3 : Memref sig .tc .vmem S16x512x128 .f32) (harg3 : arg3.IsWhole) (arg4 : Memref sig .tc .vmem S8x512x128 .f32) (harg4 : arg4.IsWhole) (arg5 : Memref sig .tc .vmem S16x512x128 .f32) (harg5 : arg5.IsWhole) (arg6 : Memref sig .tc .vmem S6144x2048 .bf16) (harg6 : arg6.IsWhole)
    (hc0 : ¬k0_cond1 i = 1#1) (hc1 : ¬k0_cond2 i = 1#1) (hc2 : k0_cond3 i = 1#1)
    (x0 : Vec F S512x2048 .f32) (x1 : Vec F S1x384x2048 .f32) (d2 : Vec F S16x512x128 .f32) (a : Vec F S6144x2048 .bf16)
    (wb : S6144x2048.Idx → Elt F .bf16) (ha : Filled wb 16 a) :
      ∀ (E : Set ℕ) (K : PUnit → sProp 𝕄),
        iprop(owns (c : Thread nD τ) arg1 fullShare x0 ∗ owns (c : Thread nD τ) arg2 fullShare x1 ∗ owns (c : Thread nD τ) arg3 fullShare d2 ∗ (∃ d, owns (c : Thread nD τ) arg4 fullShare d) ∗ (∃ d, owns (c : Thread nD τ) arg5 fullShare d) ∗ owns (c : Thread nD τ) arg6 fullShare a
            ∗ (iprop(owns (c : Thread nD τ) arg1 fullShare x0 ∗ owns (c : Thread nD τ) arg2 fullShare x1
              ∗ owns (c : Thread nD τ) arg3 fullShare d2
              ∗ owns (c : Thread nD τ) arg4 fullShare (headsOf 8 0 (by omega) (k0_pay32 x0 (rowsFrom 3072 (by omega) wb)))
              ∗ owns (c : Thread nD τ) arg5 fullShare (headsOf 16 1024 (by omega) (k0_pay32 x0 (rowsFrom 3072 (by omega) wb)))
              ∗ owns (c : Thread nD τ) arg6 fullShare a) -∗ K ⟨⟩))
          ⊢ wp frame (wpE (defs₀ (F := F)) Variants.none c none) E (cc0__qkv_body i arg1 harg1 arg2 harg2 arg3 harg3 arg4 harg4 arg5 harg5 arg6 harg6) K := by
    intro E K
    simp only [cc0__qkv_body_eq_skeleton]; unfold cc0__qkv_body_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg1.eq_unread hf0
    sl_exec (disch := first | sl_exact hc0 | sl_exact hc1 | sl_exact hc2)
    sl_step
    iapply Hk
    have hX : View.readAt (Elt F) arg1.view (Rect.unit (s := S512x2048) ![0, 0] S512x2048.size inb_S512x2048_S512x2048_0_0).toLoadRect (harg1.unread x0) = x0 := by
      rw [View.readAt_eq_ld, harg1.read_unread, View.ld_unit_zero (by decide)]
    have hW := Filled.load arg6.view fs0 3072 (by omega) inb_S6144x2048_S3072x2048_3072_0 (hfs0 ▸ ha) (by omega)
    have hacc := congrArg₂ k0_pay32 hX hW
    isplitl [H0]
    · iexists _; isplitr; · ipureintro; exact harg1.read_unread _
      iexact H0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro
      rw [← hacc]
      refine read_slabs 8 0 _ _ _ _ _ ?_ fun y => ?_
      · repeat' first
          | refine List.forall_mem_cons.mpr ⟨?_, ?_⟩
          | exact fun p hp => absurd hp List.not_mem_nil
          | exact slab_piece 8 0 (by omega) (by decide) (by decide) (by decide) rfl
      · have h : (y 0).val < 8 := (y 0).isLt
        simp only [List.exists_mem_cons_iff]
        simp only [mem_slab 8]
        omega
    isplitl [H4]
    · iexists _; isplitr; swap; · iexact H4
      ipureintro
      rw [← hacc]
      refine read_slabs 16 1024 _ _ _ _ _ ?_ fun y => ?_
      · repeat' first
          | refine List.forall_mem_cons.mpr ⟨?_, ?_⟩
          | exact fun p hp => absurd hp List.not_mem_nil
          | exact slab_piece 16 1024 (by omega) (by decide) (by decide) (by decide) rfl
      · have h : (y 0).val < 16 := (y 0).isLt
        simp only [List.exists_mem_cons_iff]
        simp only [mem_slab 16]
        omega
    iexists _; isplitr; swap; · iexact HS0
    ipureintro; exact hfs0

end Cert.KernelIdeal.QKV

end
-- ==== Proof.Schedule.lean ====
/-
  The grid's 24 points in three sweeps of eight: which branch of the body a point takes, which block each window names
  there, when a result's block is written back, and what the two input windows hold.
-/
module

public import proofs.«01_k».proof.Proof.Heads
public import proofs.«01_k».proof.Proof.Gen.KernelIdeal.Frame
public import Idealize.ShloMosaic.Lib.Pipeline.TableIdle

@[expose] public section

set_option maxRecDepth 16384

noncomputable section

namespace Cert.KernelIdeal.QKV

open Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)

/-! ## The three conditions and the place of a chunk -/

/-- A point stores a chunk of the weights exactly in the first two sweeps. -/
theorem cond1_iff : ∀ t : Fin cfg0.N, k0_cond1 (grid0.coords t) = 1#1 ↔ t.val < 16 :=
  (by decide +kernel : ∀ t : Fin grid0.N, _)
/-- A point computes the first half of the projections exactly in the second sweep. -/
theorem cond2_iff : ∀ t : Fin cfg0.N, k0_cond2 (grid0.coords t) = 1#1 ↔ 8 ≤ t.val ∧ t.val < 16 :=
  (by decide +kernel : ∀ t : Fin grid0.N, _)
/-- A point computes the second half of the projections exactly in the third sweep. -/
theorem cond3_iff : ∀ t : Fin cfg0.N, k0_cond3 (grid0.coords t) = 1#1 ↔ 16 ≤ t.val :=
  (by decide +kernel : ∀ t : Fin grid0.N, _)
/-- Point `t` stores its chunk from row `384 t` on. -/
theorem off1_eq : ∀ t : Fin cfg0.N, k0_off1 (grid0.coords t) = ![384 * t.val, 0] :=
  (by decide +kernel : ∀ t : Fin grid0.N, _)
/-- There are 24 points. -/
theorem lt_N (t : Fin cfg0.N) : t.val < 24 := lt_of_lt_of_eq t.isLt (show cfg0.N = 24 from N_0)

/-! ## The blocks -/

/-- The block of rows of `x` that point `t` works on. -/
def jx (t : ℕ) : Fin 8 := ⟨(if t < 8 then 0 else t) % 8, by omega⟩
/-- The block of rows of the query that window 2 names at point `t`. -/
def jq (t : ℕ) : Fin 8 := ⟨min (t - 8) 7, by omega⟩
/-- The block of rows of the value that window 4 names at point `t`. -/
def jv (t : ℕ) : Fin 8 := ⟨min (t - 16) 7, by omega⟩
/-- The half of the key's heads, and the block of rows, that window 3 names at point `t`. -/
def hk (t : ℕ) : Fin 2 := ⟨if t < 16 then 0 else 1, by split <;> omega⟩
def jk (t : ℕ) : Fin 8 := if t < 16 then jq t else jv t

theorem index0 : ∀ t : Fin cfg0.N, win0_0.index t (0 : Fin 2) = (jx t.val).val ∧ win0_0.index t (1 : Fin 2) = 0 :=
  (by decide +kernel : ∀ t : Fin grid0.N, _)
theorem index1 : ∀ t : Fin cfg0.N, win0_1.index t (0 : Fin 3) = min t.val 15 ∧ win0_1.index t (1 : Fin 3) = 0
    ∧ win0_1.index t (2 : Fin 3) = 0 := (by decide +kernel : ∀ t : Fin grid0.N, _)
theorem index2 : ∀ t : Fin cfg0.N, win0_2.index t (0 : Fin 3) = 0 ∧ win0_2.index t (1 : Fin 3) = (jq t.val).val
    ∧ win0_2.index t (2 : Fin 3) = 0 := (by decide +kernel : ∀ t : Fin grid0.N, _)
theorem index3 : ∀ t : Fin cfg0.N, win0_3.index t (0 : Fin 3) = (hk t.val).val ∧ win0_3.index t (1 : Fin 3) = (jk t.val).val
    ∧ win0_3.index t (2 : Fin 3) = 0 := (by decide +kernel : ∀ t : Fin grid0.N, _)
theorem index4 : ∀ t : Fin cfg0.N, win0_4.index t (0 : Fin 3) = 0 ∧ win0_4.index t (1 : Fin 3) = (jv t.val).val
    ∧ win0_4.index t (2 : Fin 3) = 0 := (by decide +kernel : ∀ t : Fin grid0.N, _)

/-! ## The write-backs -/

/-- The query's block is written back after each point of the second sweep but the last, and after the last point. -/
theorem flush2 (t : Fin cfg0.N) : (cfg0.win 2).flush t = true ↔ (8 ≤ t.val ∧ t.val < 15) ∨ t.val = 23 := by
  rw [Window.flush_eq_flushF]
  exact (by decide +kernel : ∀ t : Fin grid0.N, win0_2.flushF t = true ↔ (8 ≤ t.val ∧ t.val < 15) ∨ t.val = 23) t
/-- The key's block is written back after each point of the second and third sweeps. -/
theorem flush3 (t : Fin cfg0.N) : (cfg0.win 3).flush t = true ↔ 8 ≤ t.val := by
  rw [Window.flush_eq_flushF]
  exact (by decide +kernel : ∀ t : Fin grid0.N, win0_3.flushF t = true ↔ 8 ≤ t.val) t
/-- The value's block is written back after each point of the third sweep. -/
theorem flush4 (t : Fin cfg0.N) : (cfg0.win 4).flush t = true ↔ 16 ≤ t.val := by
  rw [Window.flush_eq_flushF]
  exact (by decide +kernel : ∀ t : Fin grid0.N, win0_4.flushF t = true ↔ 16 ≤ t.val) t

/-- Where the body stores no query, key or value. -/
theorem idle2 : ∀ t : Fin cfg0.N, cfg0.idle 2 (grid0.coords t) = true ↔ ¬(8 ≤ t.val ∧ t.val < 16) :=
  (by decide +kernel : ∀ t : Fin grid0.N, idle0 2 (grid0.coords t) = true ↔ ¬(8 ≤ t.val ∧ t.val < 16))
theorem idle3 : ∀ t : Fin cfg0.N, cfg0.idle 3 (grid0.coords t) = true ↔ t.val < 8 :=
  (by decide +kernel : ∀ t : Fin grid0.N, idle0 3 (grid0.coords t) = true ↔ t.val < 8)
theorem idle4 : ∀ t : Fin cfg0.N, cfg0.idle 4 (grid0.coords t) = true ↔ t.val < 16 :=
  (by decide +kernel : ∀ t : Fin grid0.N, idle0 4 (grid0.coords t) = true ↔ t.val < 16)

/-- Through the third sweep the query's staging buffer keeps what the second sweep's last point stored. -/
theorem fresh2 (n : ℕ) (hn : n < 24) : cfg0.fresh 2 n = decide (n < 16) := by
  refine Cfg.fresh_tab cfg0 2 (fun n => decide (n < 16 ∨ n = 24)) rfl (fun t => ?_) n (by rw [show cfg0.N = 24 from N_0]; omega) |>.trans ?_
  · rw [Window.flush_eq_flushF]
    exact (by decide +kernel : ∀ t : Fin grid0.N, decide (t.val + 1 < 16 ∨ t.val + 1 = 24)
      = (win0_2.flushF t || (idle0 2 (grid0.coords t) && decide (t.val < 16 ∨ t.val = 24)))) t
  · rw [decide_eq_decide]; omega

/-! ## What the input windows hold -/

section
variable {F : FTy → Type} [FloatOps F]

/-- Block `j` of the rows of `x`: rows `512 j`, …, `512 j + 511`. -/
def xblk {α : Type} (X : S4096x2048.Idx → α) (j : Fin 8) : S512x2048.Idx → α := fun y =>
  X (ix2 (⟨512 * j.val + (y 0).val, by have h : (y 0).val < 512 := (y 0).isLt; omega⟩ : Fin 4096) (⟨(y 1).val, (y 1).isLt⟩ : Fin 2048))

/-- The weights as the scratch holds them when full: row `384 b + s` is row `s` of chunk `b`, at the low precision. -/
def weightRows (W : S16x384x2048.Idx → Elt F .f32) : S6144x2048.Idx → Elt F .bf16 :=
  truncf .bf16 (fun y : S6144x2048.Idx => W (ix3 (⟨(y 0).val / 384, by have h : (y 0).val < 6144 := (y 0).isLt; omega⟩ : Fin 16)
    (⟨(y 0).val % 384, by omega⟩ : Fin 384) (⟨(y 1).val, (y 1).isLt⟩ : Fin 2048))) bitsLt_bf16_f32

variable (m : (ℓ : Loc nD τ sig) → Buf (Elt F) ℓ)

/-- Window 0 holds the point's block of rows of `x`. -/
theorem iblk0 (c : Dev nD) (t : Fin cfg0.N) : iblk m c 0 t = xblk (V m c main_arg0) (jx t.val) := by
  obtain ⟨e0, e1⟩ := index0 t
  funext y
  refine congrArg (V m c main_arg0) (funext fun a => Fin.ext ?_)
  match a with
  | ⟨0, _⟩ => show win0_0.index t (0 : Fin 2) * 512 + 1 * (y 0).val = 512 * (jx t.val).val + (y 0).val; rw [e0]; omega
  | ⟨1, _⟩ => show win0_0.index t (1 : Fin 2) * 2048 + 1 * (y 1).val = (y 1).val; rw [e1]; omega

/-- The chunk that a point of the first two sweeps stores is the weights' rows at the chunk's place. -/
theorem chunk_eq (c : Dev nD) (t : Fin cfg0.N) (ht : t.val < 16)
    (inb : ∀ a, k0_off1 (grid0.coords t) a + S384x2048.size a ≤ S6144x2048.size a) (x : S384x2048.Idx) :
    k0_pay1 (iblk m c 1 t) x = weightRows (V m c main_call0_v0) ((Rect.unit (s := S6144x2048) (k0_off1 (grid0.coords t)) S384x2048.size inb).emb x) := by
  obtain ⟨e0, e1, e2⟩ := index1 t
  have h0 : (x 0).val < 384 := (x 0).isLt
  unfold k0_pay1 weightRows
  dsimp only
  refine (congrFun (shapeCast_self _ _) x).trans ?_
  refine congrArg (FloatOps.truncf .bf16 bitsLt_bf16_f32) ?_
  refine (shapeCast_apply _ _ x (ix3 (0 : Fin 1) (⟨(x 0).val, (x 0).isLt⟩ : Fin 384) (⟨(x 1).val, (x 1).isLt⟩ : Fin 2048)) ?_).trans ?_
  · rw [Shape.rowMajor_val_two, Shape.rowMajor_val_three]
    show (0 * 384 + (x 0).val) * 2048 + (x 1).val = (x 0).val * 2048 + (x 1).val
    omega
  · have o0 : k0_off1 (grid0.coords t) 0 = 384 * t.val := congrFun (off1_eq t) 0
    have o1 : k0_off1 (grid0.coords t) 1 = 0 := congrFun (off1_eq t) 1
    refine congrArg (V m c main_call0_v0) (funext fun a => Fin.ext ?_)
    match a with
    | ⟨0, _⟩ =>
      show win0_1.index t (0 : Fin 3) * 1 + 1 * 0 = (k0_off1 (grid0.coords t) 0 + 1 * (x 0).val) / 384
      rw [e0, o0]; omega
    | ⟨1, _⟩ =>
      show win0_1.index t (1 : Fin 3) * 384 + 1 * (x 0).val = (k0_off1 (grid0.coords t) 0 + 1 * (x 0).val) % 384
      rw [e1, o0]; omega
    | ⟨2, _⟩ =>
      show win0_1.index t (2 : Fin 3) * 2048 + 1 * (x 1).val = k0_off1 (grid0.coords t) 1 + 1 * (x 1).val
      rw [e2, o1]
end

end Cert.KernelIdeal.QKV

end
-- ==== Proof.Launch.lean ====
/-
  The launch of the kernel: what each window's staging buffer holds after each point, the body's obligation at every
  point from the three cases of the body, and the run.
-/
module

public import proofs.«01_k».proof.Proof.BodyA
public import proofs.«01_k».proof.Proof.BodyB
public import proofs.«01_k».proof.Proof.BodyC
public import proofs.«01_k».proof.Proof.Schedule
public import Idealize.ShloMosaic.Lib.Claim

@[expose] public section

set_option maxRecDepth 16384

noncomputable section

namespace Cert.KernelIdeal.QKV

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one block of rows gives -/

section
variable (X : S4096x2048.Idx → Elt F .f32) (wb : S6144x2048.Idx → Elt F .bf16) (j : Fin 8)

/-- The product of block `j` of `x` with the first 3072 weight rows, and with the last 3072. -/
def accLow : S512x3072.Idx → Elt F .f32 := k0_pay8 (xblk X j) (rowsFrom 0 (by omega) wb)
def accHigh : S512x3072.Idx → Elt F .f32 := k0_pay32 (xblk X j) (rowsFrom 3072 (by omega) wb)
/-- The query's 16 heads, the key's first 8 and last 8, and the value's 16, for block `j`. -/
def qBlock : S16x512x128.Idx → Elt F .f32 := headsOf 16 0 (by omega) (accLow X wb j)
def kBlockLow : S8x512x128.Idx → Elt F .f32 := headsOf 8 2048 (by omega) (accLow X wb j)
def kBlockHigh : S8x512x128.Idx → Elt F .f32 := headsOf 8 0 (by omega) (accHigh X wb j)
def vBlock : S16x512x128.Idx → Elt F .f32 := headsOf 16 1024 (by omega) (accHigh X wb j)
end

variable (m : (ℓ : Loc nD τ sig) → Buf (Elt F) ℓ) (ρ : Dev nD → PrngReg)

/-- `x` as the launch finds it on device `c`, and the weights as the scratch holds them. -/
abbrev xs (c : Dev nD) : S4096x2048.Idx → Elt F .f32 := V m c main_arg0
abbrev ws (c : Dev nD) : S6144x2048.Idx → Elt F .bf16 := weightRows (V m c main_call0_v0)

/-! ## The proof data -/

/-- The scratch as a memref. -/
abbrev scM : Memref sig .tc .vmem S6144x2048 .bf16 := Memref.whole cc0_scratch0

/-- The proof data of the pipeline on device `c`. After point `t` an input window holds its block; the query's, the
    key's and the value's windows hold the block of rows they name. Before point `t` the scratch holds the first
    `min t 16` chunks of the weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => qBlock (xs m c) (ws m c) (jq t.val)
    | ⟨3, _⟩ => if t.val < 16 then kBlockLow (xs m c) (ws m c) (jq t.val) else kBlockHigh (xs m c) (ws m c) (jv t.val)
    | ⟨4, _⟩ => vBlock (xs m c) (ws m c) (jv t.val)
  Φ t := iprop((∃ a, ⌜Filled (ws m c) (min t.val 16) a⌝ ∗ owns (c : Thread nD τ) scM fullShare a) ∗ (∃ r, prngReg c r))
  q _ := fullShare
  owed _ := 0

/-- The arrays are those the launch finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = qBlock (xs m c) (ws m c) (jq t.val) := by dsimp only [dats]
theorem after_3 (c : Dev nD) (t : Fin cfg0.N) : (dats m 0 c).after 3 t
    = if t.val < 16 then kBlockLow (xs m c) (ws m c) (jq t.val) else kBlockHigh (xs m c) (ws m c) (jv t.val) := by dsimp only [dats]
theorem after_4 (c : Dev nD) (t : Fin cfg0.N) : (dats m 0 c).after 4 t = vBlock (xs m c) (ws m c) (jv t.val) := by dsimp only [dats]

/-- An input window holds its block when the body runs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- In the third sweep the query's window still holds the second sweep's last block. -/
theorem before_2 (c : Dev nD) (t : Fin cfg0.N) (ht : 16 ≤ t.val) (d) :
    (dats m 0 c).before 2 t d = qBlock (xs m c) (ws m c) (jq t.val) := by
  have hN := lt_N t
  rw [(dats m 0 c).before_out_traj 2 rfl (fun _ _ => rfl) (fun s h0 hi hf => ?_) t.val t rfl d, fresh2 _ hN,
    if_neg (by rw [decide_eq_true_eq]; omega), after_2]
  · congr 1; apply Fin.ext; show min (t.val - 1 - 8) 7 = min (t.val - 8) 7; omega
  · have hs := lt_N s
    rw [fresh2 _ hs, decide_eq_false_iff_not] at hf
    rw [after_2, after_2]
    congr 1; apply Fin.ext; show min (s.val - 8) 7 = min (s.val - 1 - 8) 7; omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- A window stored at the point is left at `after`, -/
theorem leaves_live (c : Dev nD) (w : Fin cfg0.W) (t : Fin cfg0.N) (hi : ¬cfg0.idle w (cfg0.grid.coords t) = true) :
    (dats m 0 c).leavesExact w t = owns (c : Thread nD τ) ((cfg0.win w).stage (cfg0.slots t w)) fullShare ((dats m 0 c).after w t) := by
  unfold Dat.leavesExact; rw [Bool.not_eq_true _ |>.mp hi]
/-- and so is one written back there. -/
theorem leaves_flush (c : Dev nD) (w : Fin cfg0.W) (t : Fin cfg0.N) (hi : cfg0.idle w (cfg0.grid.coords t) = true)
    (hf : (cfg0.win w).flush t = true) :
    (dats m 0 c).leavesExact w t = owns (c : Thread nD τ) ((cfg0.win w).stage (cfg0.slots t w)) fullShare ((dats m 0 c).after w t) := by
  unfold Dat.leavesExact; rw [hi, hf]

/-- What holds of the scratch before point `t`, and after it. -/
theorem Phi_castSucc (c : Dev nD) (t : Fin cfg0.N) : (dats m 0 c).Φ t.castSucc
    = iprop((∃ a, ⌜Filled (ws m c) (min t.val 16) a⌝ ∗ owns (c : Thread nD τ) scM fullShare a) ∗ (∃ r, prngReg c r)) := rfl
theorem Phi_succ (c : Dev nD) (t : Fin cfg0.N) : (dats m 0 c).Φ t.succ
    = iprop((∃ a, ⌜Filled (ws m c) (min (t.val + 1) 16) a⌝ ∗ owns (c : Thread nD τ) scM fullShare a) ∗ (∃ r, prngReg c r)) := rfl

/-- The body at a point of the first sweep. -/
theorem body_A (c : Dev nD) (t : Fin cfg0.N) (h : t.val < 8) :
    bodyPre m c t ⊢ wp frame (wpE (defs₀ (F := F)) Variants.none c none) Set.univ (bodyAt0 t) (fun _ => bodyPost m c t) := by
  unfold bodyPre bodyPost bodyAt0
  simp only [before_0, before_1]
  have i2 := (idle2 t).mpr (by omega)
  have i3 := (idle3 t).mpr h
  have i4 := (idle4 t).mpr (by omega)
  have f2 := Bool.eq_false_iff.mpr (mt (flush2 t).mp (by omega))
  have f3 := Bool.eq_false_iff.mpr (mt (flush3 t).mp (by omega))
  have f4 := Bool.eq_false_iff.mpr (mt (flush4 t).mp (by omega))
  have hc0 := (cond1_iff t).mpr (by omega)
  rw [show (dats m 0 c).owesAt () t.succ = (dats m 0 c).owesAt () t.castSucc from rfl, Phi_castSucc, Phi_succ,
    leaves_live m c 0 t (fun h => Bool.false_ne_true h), leaves_live m c 1 t (fun h => Bool.false_ne_true h), after_0, after_1,
    (dats m 0 c).leavesExact_idle 2 t i2 f2, (dats m 0 c).leavesExact_idle 3 t i3 f3, (dats m 0 c).leavesExact_idle 4 t i4 f4,
    show min t.val 16 = t.val by omega, show min (t.val + 1) 16 = t.val + 1 by omega]
  iintro ⟨⟨⟨%a, %ha, HS⟩, Hg⟩, Ho, ⟨%d0, H0⟩, ⟨%d1, H1⟩, ⟨%d2, H2⟩, ⟨%d3, H3⟩, ⟨%d4, H4⟩⟩
  iapply (run_A c (grid0.coords t) _ _ _ _ _ _ _ _ _ _ _ _ hc0 (fun h' => by have := (cond2_iff t).mp h'; omega)
    (fun h' => by have := (cond3_iff t).mp h'; omega) (iblk m c 0 t) (iblk m c 1 t) _ _ _ a (ws m c) t.val (off1_eq t) ha
    (chunk_eq m c t (by omega) _) Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexists _; iexact H2
  isplitl [H3]; · iexists _; iexact H3
  iexists _; iexact H4

/-- The body at a point of the second sweep. -/
theorem body_B (c : Dev nD) (t : Fin cfg0.N) (h8 : 8 ≤ t.val) (h16 : t.val < 16) :
    bodyPre m c t ⊢ wp frame (wpE (defs₀ (F := F)) Variants.none c none) Set.univ (bodyAt0 t) (fun _ => bodyPost m c t) := by
  unfold bodyPre bodyPost bodyAt0
  simp only [before_0, before_1]
  have i4 := (idle4 t).mpr h16
  have f4 := Bool.eq_false_iff.mpr (mt (flush4 t).mp (by omega))
  have hc0 := (cond1_iff t).mpr h16
  have hj : jx t.val = jq t.val := Fin.ext (by show (if t.val < 8 then 0 else t.val) % 8 = min (t.val - 8) 7; rw [if_neg (by omega)]; omega)
  rw [show (dats m 0 c).owesAt () t.succ = (dats m 0 c).owesAt () t.castSucc from rfl, Phi_castSucc, Phi_succ,
    leaves_live m c 0 t (fun h => Bool.false_ne_true h), leaves_live m c 1 t (fun h => Bool.false_ne_true h),
    leaves_live m c 2 t (mt (idle2 t).mp (by omega)), leaves_live m c 3 t (mt (idle3 t).mp (by omega)),
    (dats m 0 c).leavesExact_idle 4 t i4 f4, after_0, after_1, after_2, after_3, if_pos h16, iblk0, hj,
    show min t.val 16 = t.val by omega, show min (t.val + 1) 16 = t.val + 1 by omega]
  iintro ⟨⟨⟨%a, %ha, HS⟩, Hg⟩, Ho, ⟨%d0, H0⟩, ⟨%d1, H1⟩, ⟨%d2, H2⟩, ⟨%d3, H3⟩, ⟨%d4, H4⟩⟩
  iapply (run_B c (grid0.coords t) _ _ _ _ _ _ _ _ _ _ _ _ hc0 ((cond2_iff t).mpr ⟨h8, h16⟩)
    (fun h' => by have := (cond3_iff t).mp h'; omega) (xblk (xs m c) (jq t.val)) (iblk m c 1 t) _ a (ws m c) t.val h8 (off1_eq t) ha
    (chunk_eq m c t (by omega) _) Set.univ _)
  isplitl [H0]; · iexact H0
  isplitl [H1]; · iexact H1
  isplitl [H2]; · iexists _; iexact H2
  isplitl [H3]; · iexists _; iexact H3
  isplitl [H4]; · iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexists _; iexact H4

/-- The body at a point of the third sweep. -/
theorem body_C (c : Dev nD) (t : Fin cfg0.N) (h16 : 16 ≤ t.val) :
    bodyPre m c t ⊢ wp frame (wpE (defs₀ (F := F)) Variants.none c none) Set.univ (bodyAt0 t) (fun _ => bodyPost m c t) := by
  unfold bodyPre bodyPost bodyAt0
  simp only [before_0, before_1, before_2 m c t h16]
  have hN := lt_N t
  have i2 := (idle2 t).mpr (by omega)
  have hj : jx t.val = jv t.val := Fin.ext (by show (if t.val < 8 then 0 else t.val) % 8 = min (t.val - 16) 7; rw [if_neg (by omega)]; omega)
  have h2 : owns (c : Thread nD τ) (st0_2 t) fullShare (qBlock (xs m c) (ws m c) (jq t.val)) ⊢ ((dats m 0 c).leavesExact 2 t : sProp 𝕄) := by
    by_cases hf : t.val = 23
    · rw [leaves_flush m c 2 t i2 ((flush2 t).mpr (.inr hf)), after_2]
    · rw [(dats m 0 c).leavesExact_idle 2 t i2 (Bool.eq_false_iff.mpr (mt (flush2 t).mp (by omega)))]
      simp only [before_2 m c t h16]
      iintro H; iexists (fun _ => default); iexact H
  rw [show (dats m 0 c).owesAt () t.succ = (dats m 0 c).owesAt () t.castSucc from rfl, Phi_castSucc, Phi_succ,
    leaves_live m c 0 t (fun h => Bool.false_ne_true h), leaves_live m c 1 t (fun h => Bool.false_ne_true h),
    leaves_live m c 3 t (mt (idle3 t).mp (by omega)), leaves_live m c 4 t (mt (idle4 t).mp (by omega)),
    after_0, after_1, after_3, after_4, if_neg (by omega), iblk0, hj,
    show min t.val 16 = 16 by omega, show min (t.val + 1) 16 = 16 by omega]
  iintro ⟨⟨⟨%a, %ha, HS⟩, Hg⟩, Ho, ⟨%d0, H0⟩, ⟨%d1, H1⟩, ⟨%d2, H2⟩, ⟨%d3, H3⟩, ⟨%d4, H4⟩⟩
  iapply (run_C c (grid0.coords t) _ _ _ _ _ _ _ _ _ _ _ _ (fun h' => by have := (cond1_iff t).mp h'; omega)
    (fun h' => by have := (cond2_iff t).mp h'; omega) ((cond3_iff t).mpr h16) (xblk (xs m c) (jv t.val)) (iblk m c 1 t) _ a (ws m c) ha
    Set.univ _)
  isplitl [H0]; · iexact H0
  isplitl [H1]; · iexact H1
  isplitl [H2]; · iexact H2
  isplitl [H3]; · iexists _; iexact H3
  isplitl [H4]; · iexists _; iexact H4
  isplitl [HS]; · iexact HS
  iintro ⟨H0, H1, H2, H3, H4, HS⟩
  isplitl [HS Hg]
  · isplitl [HS]
    · iexists a; isplitr; · ipureintro; exact ha
      iexact HS
    iexact Hg
  isplitl [Ho]; · iexact Ho
  isplitl [H0]; · iexact H0
  isplitl [H1]; · iexact H1
  isplitl [H2]; · iapply h2; iexact H2
  isplitl [H3]; · iexact H3
  iexact H4

/-- The body at any point. -/
theorem body_all (c : Dev nD) (t : Fin cfg0.N) :
    bodyPre m c t ⊢ wp frame (wpE (defs₀ (F := F)) Variants.none c none) Set.univ (bodyAt0 t) (fun _ => bodyPost m c t) := by
  by_cases h8 : t.val < 8
  · exact body_A m c t h8
  · by_cases h16 : t.val < 16
    · exact body_B m c t (by omega) h16
    · exact body_C m c t (by omega)

/-- The body table's row at a point is the body. -/
theorem row_eq (t : Fin cfg0.N) : defs₀ (F := F) .tc cfg0.body (cfg0.bodyArgs t (cfg0.slots t)) = bodyAt0 t := by
  unfold defs₀; rw [Defs.onTc_tc]

/-- The body obligation, at every point. -/
theorem obligation (c : Dev nD) : BodyObligation (dats (F := F) m 0 c) (defs₀ (F := F)) Variants.none () Set.univ := fun t => by
  rw [bigSep_W0, bigSep_W0, row_eq]
  exact triple_restated (body_all m c t) rfl .rfl fun _ => .rfl

/-! ## The run -/

/-- The scratch at some contents is where the launch starts and where it may end. -/
theorem scoped_eq (c : Dev nD) : (Pipeline.ΦA spec0 c : sProp 𝕄)
    = iprop((∃ d, owns (c : Thread nD τ) scM fullShare d) ∗ (∃ r, prngReg c r)) := by
  unfold Pipeline.ΦA; rw [scopedRest0_eq]; simp only [scM, owns_whole]; try rfl

theorem enter (c : Dev nD) : (Pipeline.ΦA spec0 c : sProp 𝕄) ⊢ (dats m 0 c).Φ 0 := by
  rw [scoped_eq]
  show _ ⊢ iprop((∃ a, ⌜Filled (ws m c) (min 0 16) a⌝ ∗ owns (c : Thread nD τ) scM fullShare a) ∗ (∃ r, prngReg c r))
  iintro ⟨⟨%d, H⟩, Hg⟩
  isplitl [H]
  · iexists d; isplitr
    · ipureintro; exact fun y hy => absurd hy (by omega)
    iexact H
  iexact Hg

theorem leave (c : Dev nD) : (dats m 0 c).Φ (Fin.last cfg0.N) ⊢ (Pipeline.ΦA spec0 c : sProp 𝕄) := by
  rw [scoped_eq]
  show iprop((∃ a, ⌜Filled (ws m c) (min (Fin.last cfg0.N).val 16) a⌝ ∗ owns (c : Thread nD τ) scM fullShare a) ∗ (∃ r, prngReg c r)) ⊢ _
  iintro ⟨⟨%d, -, H⟩, Hg⟩
  isplitl [H]
  · iexists d; iexact H
  iexact Hg

set_option backward.isDefEq.respectTransparency.types false in
/-- Every run of the kernel ends, with each array as the proof data say and every counter at zero. -/
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (enter m) (leave m)

/-- Every run of the kernel ends with the arguments as they were and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.QKV

end
-- ==== Proof.Machine.lean ====
module
public import proofs.«01_k».proof.Defs
public import proofs.«01_k».proof.Proof.Gen.Kernel
public import proofs.«01_k».proof.Proof.Launch

/-!
# The frame on machine floats

The kernel and its idealization are the same program text, read over machine floats and over exact
numbers. The run of `Launch.lean` is stated for every interpretation of the floats, so it holds of
machine floats too. What is left is to say that the two texts denote one program: the bodies agree
label by label, hence the tables of bodies agree, and the entry functions agree as they stand.
-/

@[expose] public section
set_option maxRecDepth 16384

noncomputable section

namespace Cert.Kernel.QKV
open Idealize.ShloMosaic Idealize.SL.Sem

variable {F : FTy → Type} [FloatOps F]

/-- The two texts have the same body at their only label. -/
theorem same_bodies : @Cert.Kernel.defs₀ F _ _ = @Cert.KernelIdeal.defs₀ F _ _ := by
  refine congrArg Defs.onTc (funext fun ℓ => funext fun a => ?_)
  match ℓ, a with
  | 0, (_, _) => exact rfl

/-- So they have the same table of bodies once the pipeline's own are added. -/
theorem same_tables : @Cert.Kernel.defs F _ _ = @Cert.KernelIdeal.defs F _ _ :=
  congrArg (Pipeline.defs Cert.KernelIdeal.pcfgs) same_bodies

/-- And the same entry function. -/
theorem same_main : Cert.Kernel.main (F := F) = Cert.KernelIdeal.main (F := F) := rfl

/-- On machine floats every run ends, leaves both arguments as they were and every semaphore at
zero. -/
theorem unchanged : Cert.quiescent_Kernel (hKernel := Cert.Kernel.Gen.facts) := by
  intro m ρ _
  rw [same_main, same_tables]
  exact Cert.KernelIdeal.QKV.unchanged (F := Bits) m ρ

end Cert.Kernel.QKV
end
-- ==== Proof.Projection.lean ====
/-
  The function that the three results are: one projection of the rows of `x` through 2048 consecutive rows of the
  weights, cut into 16 heads of 128.
-/
module

public import Idealize.ShloMosaic.PureOps.Ideal.Laws
public import Idealize.ShloMosaic.Lib.ValueIdxCore

@[expose] public section

noncomputable section

namespace Cert.QKV

open Idealize.ShloMosaic Idealize.ShloMosaic.ValueIdx

/-- The projection through the weight rows from `p` on: entry `(h, n, d)` is the inner product of row `n` of `x` with
    weight row `p + 128 h + d`. The query is the projection from 0, the key from 2048, the value from 4096. -/
def proj (p : ℕ) (hp : p + 2048 ≤ 6144) (X : (⟨2, ![4096, 2048]⟩ : Shape).Idx → EReal) (W : (⟨2, ![6144, 2048]⟩ : Shape).Idx → EReal) :
    (⟨3, ![16, 4096, 128]⟩ : Shape).Idx → EReal := fun y =>
  ∑ k : Fin 2048, X (ix2 (⟨(y 1).val, (y 1).isLt⟩ : Fin 4096) k)
    * W (ix2 (⟨p + 128 * (y 0).val + (y 2).val, by
        have h0 : (y 0).val < 16 := (y 0).isLt
        have h2 : (y 2).val < 128 := (y 2).isLt
        omega⟩ : Fin 6144) k)

end Cert.QKV

end
-- ==== Proof.Value.lean ====
/-
  What the kernel computes, over the extended reals: every block written back is its part of one projection, the blocks
  tile each result, and so the three results end as the three projections of the arguments.
-/
module

public import proofs.«01_k».proof.Proof.Launch
public import proofs.«01_k».proof.Proof.Projection
public import Idealize.ShloMosaic.Lib.MatmulPlain

@[expose] public section

set_option maxRecDepth 16384

noncomputable section

namespace Cert.KernelIdeal.QKV

open Cert.KernelIdeal.Gen Cert.QKV
open Idealize.ShloMosaic Idealize.ShloMosaic.TcCoe Idealize.ShloMosaic.ValueIdx
open Idealize.SL Idealize.SL.Sem

/-! ## One block -/

/-- An entry of a block product is the inner product of a row of the block with a weight row. -/
theorem product_apply (x : S512x2048.Idx → EReal) (w : S3072x2048.Idx → EReal) (r : Fin 512) (c : Fin 3072) :
    k0_pay8 (F := Ideal) x w (ix2 r c) = ∑ k : Fin 2048, x (ix2 r k) * w (ix2 c k) := by
  unfold k0_pay8
  refine (Ideal.matmul_transposedRhs_apply (M := 512) (K := 2048) (N := 3072) none _ _ _ r c).trans ?_
  refine Eq.trans ?_ (zero_add _)
  exact congrArg₂ (fun a b : EReal => a + b) Ideal.ofBits_zero_f32 rfl

/-- Heads cut out of the product of block `j` with the 3072 weight rows from `s` on are part of the projection from
    `p` on: head `i₀` there is the head cut at the same weight rows. -/
theorem heads_apply (X : S4096x2048.Idx → EReal) (W wb : S6144x2048.Idx → EReal) (hwb : wb = W) (j : Fin 8) (H o s p : ℕ)
    (hH : o + 128 * H ≤ 3072) (hs : s + 3072 ≤ 6144) (hp : p + 2048 ≤ 6144) (y : (slabs H).Idx) (i : S16x4096x128.Idx)
    (h0 : s + o + 128 * (y 0).val = p + 128 * (i 0).val) (h1 : (i 1).val = 512 * j.val + (y 1).val) (h2 : (i 2).val = (y 2).val) :
    headsOf H o hH (k0_pay8 (F := Ideal) (xblk X j) (rowsFrom s hs wb)) y = proj p hp X W i := by
  subst hwb
  unfold headsOf proj
  rw [product_apply]
  refine Finset.sum_congr rfl fun k _ => congrArg₂ (fun a b : EReal => a * b)
    (congrArg X (funext fun a => Fin.ext ?_)) (congrArg wb (funext fun a => Fin.ext ?_))
  · match a with
    | ⟨0, _⟩ => exact h1.symm
    | ⟨1, _⟩ => rfl
  · match a with
    | ⟨0, _⟩ => show s + (o + 128 * (y 0).val + (y 2).val) = p + 128 * (i 0).val + (i 2).val; omega
    | ⟨1, _⟩ => rfl

/-! ## The weights -/

variable (m : (ℓ : Loc nD τ sig) → Buf (Elt Ideal) ℓ) (ρ : Dev nD → PrngReg)

/-- The arguments on device `c`. -/
abbrev argX (c : Dev nD) : S4096x2048.Idx → EReal := m ((c.tc : Thread nD τ).loc main_arg0)
abbrev argW (c : Dev nD) : S6144x2048.Idx → EReal := m ((c.tc : Thread nD τ).loc main_arg1)

/-- The kernel is handed the weights in 16 chunks of 384 rows. -/
theorem chunks_eq (c : Dev nD) : V m c main_call0_v0 = shapeCast S16x384x2048 (argW m c) shapeCasts_S6144x2048_S16x384x2048 := by
  show StableHlo.after hostOps0 (fun b => m (c, b)) (Proc.devRef .tc main_call0_v0) = _
  after_results <;> rfl

/-- Rounding is the identity here, so the scratch, once full, holds the weights. -/
theorem ws_eq (c : Dev nD) : ws m c = argW m c := by
  funext y
  have h0 : (y 0).val < 6144 := (y 0).isLt
  show V m c main_call0_v0 _ = _
  rw [chunks_eq]
  refine shapeCast_apply _ _ _ y ?_
  rw [Shape.rowMajor_val_two, Shape.rowMajor_val_three]
  show (y 0).val * 2048 + (y 1).val = ((y 0).val / 384 * 384 + (y 0).val % 384) * 2048 + (y 1).val
  omega

theorem xs_eq (c : Dev nD) : xs m c = argX m c := V_main_arg0 m c

/-! ## The blocks written back -/

/-- Each block of the query, -/
theorem flushed_query (c : Dev nD) (t : Fin cfg0.N) (_ : (cfg0.win 2).flush t = true) :
    (dats m 0 c).flushed 2 t = ((cfg0.win 2).blk t).view.read (Elt Ideal) (proj 0 (by omega) (argX m c) (argW m c)) := by
  obtain ⟨e0, e1, e2⟩ := index2 t
  funext y
  show (dats m 0 c).after 2 t y = proj 0 (by decide) (argX m c) (argW m c) (((cfg0.win 2).blk t).view.emb y)
  rw [after_2, xs_eq]
  refine heads_apply _ _ _ (ws_eq m c) (jq t.val) 16 0 0 0 _ _ _ y _ ?_ ?_ ?_
  · show 0 + 0 + 128 * (y 0).val = 0 + 128 * (win0_2.index t (0 : Fin 3) * 16 + 1 * (y 0).val); rw [e0]; omega
  · show win0_2.index t (1 : Fin 3) * 512 + 1 * (y 1).val = 512 * (jq t.val).val + (y 1).val; rw [e1]; omega
  · show win0_2.index t (2 : Fin 3) * 128 + 1 * (y 2).val = (y 2).val; rw [e2]; omega

/-- of the key, -/
theorem flushed_key (c : Dev nD) (t : Fin cfg0.N) (_ : (cfg0.win 3).flush t = true) :
    (dats m 0 c).flushed 3 t = ((cfg0.win 3).blk t).view.read (Elt Ideal) (proj 2048 (by omega) (argX m c) (argW m c)) := by
  obtain ⟨e0, e1, e2⟩ := index3 t
  funext y
  show (dats m 0 c).after 3 t y = proj 2048 (by decide) (argX m c) (argW m c) (((cfg0.win 3).blk t).view.emb y)
  rw [after_3, xs_eq]
  by_cases ht : t.val < 16
  · have eh : (hk t.val).val = 0 := if_pos ht
    have ej : jk t.val = jq t.val := if_pos ht
    rw [if_pos ht]
    refine heads_apply _ _ _ (ws_eq m c) (jq t.val) 8 2048 0 2048 _ _ _ y _ ?_ ?_ ?_
    · show 0 + 2048 + 128 * (y 0).val = 2048 + 128 * (win0_3.index t (0 : Fin 3) * 8 + 1 * (y 0).val); rw [e0, eh]; omega
    · show win0_3.index t (1 : Fin 3) * 512 + 1 * (y 1).val = 512 * (jq t.val).val + (y 1).val; rw [e1, ej]; omega
    · show win0_3.index t (2 : Fin 3) * 128 + 1 * (y 2).val = (y 2).val; rw [e2]; omega
  · have eh : (hk t.val).val = 1 := if_neg ht
    have ej : jk t.val = jv t.val := if_neg ht
    rw [if_neg ht]
    refine heads_apply _ _ _ (ws_eq m c) (jv t.val) 8 0 3072 2048 _ _ _ y _ ?_ ?_ ?_
    · show 3072 + 0 + 128 * (y 0).val = 2048 + 128 * (win0_3.index t (0 : Fin 3) * 8 + 1 * (y 0).val); rw [e0, eh]; omega
    · show win0_3.index t (1 : Fin 3) * 512 + 1 * (y 1).val = 512 * (jv t.val).val + (y 1).val; rw [e1, ej]; omega
    · show win0_3.index t (2 : Fin 3) * 128 + 1 * (y 2).val = (y 2).val; rw [e2]; omega

/-- and of the value is its part of the projection. -/
theorem flushed_value (c : Dev nD) (t : Fin cfg0.N) (_ : (cfg0.win 4).flush t = true) :
    (dats m 0 c).flushed 4 t = ((cfg0.win 4).blk t).view.read (Elt Ideal) (proj 4096 (by omega) (argX m c) (argW m c)) := by
  obtain ⟨e0, e1, e2⟩ := index4 t
  funext y
  show (dats m 0 c).after 4 t y = proj 4096 (by decide) (argX m c) (argW m c) (((cfg0.win 4).blk t).view.emb y)
  rw [after_4, xs_eq]
  refine heads_apply _ _ _ (ws_eq m c) (jv t.val) 16 1024 3072 4096 _ _ _ y _ ?_ ?_ ?_
  · show 3072 + 1024 + 128 * (y 0).val = 4096 + 128 * (win0_4.index t (0 : Fin 3) * 16 + 1 * (y 0).val); rw [e0]; omega
  · show win0_4.index t (1 : Fin 3) * 512 + 1 * (y 1).val = 512 * (jv t.val).val + (y 1).val; rw [e1]; omega
  · show win0_4.index t (2 : Fin 3) * 128 + 1 * (y 2).val = (y 2).val; rw [e2]; omega

/-! ## The blocks tile the results -/

/-- Every entry of the query is in a block written back, -/
theorem cover_query (i : S16x4096x128.Idx) : ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 128 := (i 2).isLt
  have hN : cfg0.N = 24 := N_0
  let t : Fin cfg0.N := ⟨if (i 1).val < 3584 then 8 + (i 1).val / 512 else 23, by split <;> omega⟩
  have ht : t.val = if (i 1).val < 3584 then 8 + (i 1).val / 512 else 23 := rfl
  obtain ⟨e0, e1, e2⟩ := index2 t
  have ej : (jq t.val).val = (i 1).val / 512 := by
    show min (t.val - 8) 7 = _; rw [ht]; split <;> omega
  refine ⟨t, (flush2 t).mpr (by rw [ht]; split <;> omega), ?_⟩
  show i ∈ ((View.whole main_v0_0).slice (win0_2.rect t)).set
  rw [View.set_slice_whole, Rect.mem_set_unit]
  intro a
  match a with
  | ⟨0, _⟩ => show win0_2.index t (0 : Fin 3) * 16 ≤ (i 0).val ∧ (i 0).val < win0_2.index t (0 : Fin 3) * 16 + 16; rw [e0]; omega
  | ⟨1, _⟩ => show win0_2.index t (1 : Fin 3) * 512 ≤ (i 1).val ∧ (i 1).val < win0_2.index t (1 : Fin 3) * 512 + 512; rw [e1, ej]; omega
  | ⟨2, _⟩ => show win0_2.index t (2 : Fin 3) * 128 ≤ (i 2).val ∧ (i 2).val < win0_2.index t (2 : Fin 3) * 128 + 128; rw [e2]; omega

/-- every entry of the key: its first 8 heads in the second sweep, its last 8 in the third, -/
theorem cover_key (i : S16x4096x128.Idx) : ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 128 := (i 2).isLt
  have hN : cfg0.N = 24 := N_0
  let t : Fin cfg0.N := ⟨(if (i 0).val < 8 then 8 else 16) + (i 1).val / 512, by split <;> omega⟩
  have ht : t.val = (if (i 0).val < 8 then 8 else 16) + (i 1).val / 512 := rfl
  obtain ⟨e0, e1, e2⟩ := index3 t
  have ej : (jk t.val).val = (i 1).val / 512 := by
    unfold jk
    by_cases h : (i 0).val < 8
    · rw [if_pos h] at ht; rw [if_pos (by omega)]; show min (t.val - 8) 7 = _; omega
    · rw [if_neg h] at ht; rw [if_neg (by omega)]; show min (t.val - 16) 7 = _; omega
  have eh : (hk t.val).val = (i 0).val / 8 := by
    show (if t.val < 16 then 0 else 1) = _
    by_cases h : (i 0).val < 8
    · rw [if_pos h] at ht; rw [if_pos (by omega)]; omega
    · rw [if_neg h] at ht; rw [if_neg (by omega)]; omega
  refine ⟨t, (flush3 t).mpr (by rw [ht]; split <;> omega), ?_⟩
  show i ∈ ((View.whole main_v0_1).slice (win0_3.rect t)).set
  rw [View.set_slice_whole, Rect.mem_set_unit]
  intro a
  match a with
  | ⟨0, _⟩ => show win0_3.index t (0 : Fin 3) * 8 ≤ (i 0).val ∧ (i 0).val < win0_3.index t (0 : Fin 3) * 8 + 8; rw [e0, eh]; omega
  | ⟨1, _⟩ => show win0_3.index t (1 : Fin 3) * 512 ≤ (i 1).val ∧ (i 1).val < win0_3.index t (1 : Fin 3) * 512 + 512; rw [e1, ej]; omega
  | ⟨2, _⟩ => show win0_3.index t (2 : Fin 3) * 128 ≤ (i 2).val ∧ (i 2).val < win0_3.index t (2 : Fin 3) * 128 + 128; rw [e2]; omega

/-- and every entry of the value. -/
theorem cover_value (i : S16x4096x128.Idx) : ∃ t : Fin cfg0.N, (cfg0.win 4).flush t = true ∧ i ∈ ((cfg0.win 4).blk t).view.set := by
  have h0 : (i 0).val < 16 := (i 0).isLt
  have h1 : (i 1).val < 4096 := (i 1).isLt
  have h2 : (i 2).val < 128 := (i 2).isLt
  have hN : cfg0.N = 24 := N_0
  let t : Fin cfg0.N := ⟨16 + (i 1).val / 512, by omega⟩
  have ht : t.val = 16 + (i 1).val / 512 := rfl
  obtain ⟨e0, e1, e2⟩ := index4 t
  have ej : (jv t.val).val = (i 1).val / 512 := by
    show min (t.val - 16) 7 = _; omega
  refine ⟨t, (flush4 t).mpr (by omega), ?_⟩
  show i ∈ ((View.whole main_v0_2).slice (win0_4.rect t)).set
  rw [View.set_slice_whole, Rect.mem_set_unit]
  intro a
  match a with
  | ⟨0, _⟩ => show win0_4.index t (0 : Fin 3) * 16 ≤ (i 0).val ∧ (i 0).val < win0_4.index t (0 : Fin 3) * 16 + 16; rw [e0]; omega
  | ⟨1, _⟩ => show win0_4.index t (1 : Fin 3) * 512 ≤ (i 1).val ∧ (i 1).val < win0_4.index t (1 : Fin 3) * 512 + 512; rw [e1, ej]; omega
  | ⟨2, _⟩ => show win0_4.index t (2 : Fin 3) * 128 ≤ (i 2).val ∧ (i 2).val < win0_4.index t (2 : Fin 3) * 128 + 128; rw [e2]; omega

/-! ## The run -/

/-- Every run of the kernel ends with the three projections of its arguments, and the arguments as they were. -/
theorem computes : θ_run defs (onTc (τ := τ) (main (F := Ideal))) ⟨m, fun _ => 0, ρ⟩ (fun r => ∀ c : Dev nD,
      r.2.mem ((c.tc : Thread nD τ).loc main_v0_0) = proj 0 (by omega) (argX m c) (argW m c)
      ∧ r.2.mem ((c.tc : Thread nD τ).loc main_v0_1) = proj 2048 (by omega) (argX m c) (argW m c)
      ∧ r.2.mem ((c.tc : Thread nD τ).loc main_v0_2) = proj 4096 (by omega) (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1.1 c).1 2).trans ((dats m 0 c).arrAt_eq_of_cover 2 _ (flushed_query m c) cover_query),
      ((h.1.1 c).1 3).trans ((dats m 0 c).arrAt_eq_of_cover 3 _ (flushed_key m c) cover_key),
      ((h.1.1 c).1 4).trans ((dats m 0 c).arrAt_eq_of_cover 4 _ (flushed_value m c) cover_value),
      h.2.1 c⟩)
    (θ_run_and (run_all m ρ) (unchanged m ρ))

end Cert.KernelIdeal.QKV

end
-- ==== Proof.Reference.lean ====
/-
  What the reference computes: one product of `x` with the transposed weights, cut, reshaped and transposed into the
  query, the key and the value. Each of the three is a projection, and the run ends with every counter at zero.
-/
module

public import proofs.«01_k».proof.Proof.Projection
public import proofs.«01_k».proof.Proof.Gen.ReferenceIdeal.Read
public import Idealize.ShloMosaic.Lib.Quiescent

@[expose] public section

noncomputable section

namespace Cert.ReferenceIdeal.QKV

open Cert.ReferenceIdeal Cert.ReferenceIdeal.Gen Cert.ReferenceIdeal.Read Cert.QKV
open Idealize.ShloMosaic Idealize.ShloMosaic.TcCoe Idealize.ShloMosaic.ValueIdx Idealize.SL.Sem

variable (X : S4096x2048.Idx → EReal) (W : S6144x2048.Idx → EReal)

/-- An entry of the product is the inner product of a row of `x` with a row of the weights. -/
theorem product_apply (i : S4096x6144.Idx) (r : Fin 4096) (c : Fin 6144) (hr : (i 0).val = r.val) (hc : (i 1).val = c.val) :
    val_main_v1 (F := Ideal) X W i = ∑ k : Fin 2048, X (ix2 r k) * W (ix2 c k) := by
  rw [val_main_v1_apply]
  refine Finset.sum_congr rfl fun k _ => ?_
  rw [val_main_v0_apply]
  refine congrArg₂ (fun a b : EReal => a * b) (congrArg X (funext fun a => Fin.ext ?_)) (congrArg W (funext fun a => Fin.ext ?_))
  · match a with
    | ⟨0, _⟩ => exact hr
    | ⟨1, _⟩ => rfl
  · match a with
    | ⟨0, _⟩ => exact hc
    | ⟨1, _⟩ => rfl

/-- The query and the key stacked: entry `(a, h, n, d)` is the inner product of row `n` with weight row
    `2048 a + 128 h + d`. -/
theorem stacked_apply (i : S2x16x4096x128.Idx) (r : Fin 4096) (c : Fin 6144) (hr : (i 2).val = r.val)
    (hc : 2048 * (i 0).val + 128 * (i 1).val + (i 3).val = c.val) :
    val_main_v4 (F := Ideal) X W i = ∑ k : Fin 2048, X (ix2 r k) * W (ix2 c k) := by
  have h0 : (i 0).val < 2 := (i 0).isLt
  have h1 : (i 1).val < 16 := (i 1).isLt
  have h2 : (i 2).val < 4096 := (i 2).isLt
  have h3 : (i 3).val < 128 := (i 3).isLt
  rw [val_main_v4_apply, val_main_v3_apply, val_main_v2_apply]
  refine product_apply X W _ _ _ ?_ ?_ <;> dsimp only [idx_main_v2, idx_main_v3, idx_main_v4] <;> omega

/-- The place of an entry counted row-major, and its coordinates back from it. -/
theorem coords (a b c : ℕ) (ha : a < 16) (hb : b < 4096) (hc : c < 128) :
    ((a * 4096 + b) * 128 + c) / 524288 % 16 = a ∧ ((a * 4096 + b) * 128 + c) / 128 % 4096 = b
      ∧ ((a * 4096 + b) * 128 + c) % 128 = c := by omega

/-- The first result is the projection through the first 2048 weight rows, -/
theorem query_eq : val_main_v6 (F := Ideal) X W = proj 0 (by omega) X W := by
  funext i
  obtain ⟨e0, e1, e2⟩ := coords (i 0).val (i 1).val (i 2).val (i 0).isLt (i 1).isLt (i 2).isLt
  rw [val_main_v6_apply, val_main_v5_apply]
  refine stacked_apply X W _ _ _ e1 ?_
  show 2048 * 0 + 128 * ((((i 0).val * 4096 + (i 1).val) * 128 + (i 2).val) / 524288 % 16) + (((i 0).val * 4096 + (i 1).val) * 128 + (i 2).val) % 128
    = 0 + 128 * (i 0).val + (i 2).val
  rw [e0, e2]

/-- the second through the next 2048, -/
theorem key_eq : val_main_v8 (F := Ideal) X W = proj 2048 (by omega) X W := by
  funext i
  obtain ⟨e0, e1, e2⟩ := coords (i 0).val (i 1).val (i 2).val (i 0).isLt (i 1).isLt (i 2).isLt
  rw [val_main_v8_apply, val_main_v7_apply]
  refine stacked_apply X W _ _ _ e1 ?_
  show 2048 * (1 + 0) + 128 * ((((i 0).val * 4096 + (i 1).val) * 128 + (i 2).val) / 524288 % 16) + (((i 0).val * 4096 + (i 1).val) * 128 + (i 2).val) % 128
    = 2048 + 128 * (i 0).val + (i 2).val
  rw [e0, e2]

/-- and the third through the last 2048. -/
theorem value_eq : val_main_v11 (F := Ideal) X W = proj 4096 (by omega) X W := by
  funext i
  have h0 : (i 0).val < 16 := (i 0).isLt
  have h1 : (i 1).val < 4096 := (i 1).isLt
  have h2 : (i 2).val < 128 := (i 2).isLt
  rw [val_main_v11_apply, val_main_v10_apply, val_main_v9_apply]
  refine product_apply X W _ _ _ ?_ ?_ <;> dsimp only [idx_main_v9, idx_main_v10, idx_main_v11] <;> omega

variable (m : (ℓ : Loc nD τ sig) → Buf (Elt Ideal) ℓ) (ρ : Dev nD → PrngReg)

/-- Every run of the reference ends with the three projections of its arguments, and the arguments as they were. -/
theorem computes : θ_run defs (onTc (τ := τ) (main (F := Ideal))) ⟨m, fun _ => 0, ρ⟩ (fun r => ∀ c : Dev nD,
      r.2.mem ((c.tc : Thread nD τ).loc main_v6) = proj 0 (by omega) (m ((c.tc : Thread nD τ).loc main_arg0)) (m ((c.tc : Thread nD τ).loc main_arg1))
      ∧ r.2.mem ((c.tc : Thread nD τ).loc main_v8) = proj 2048 (by omega) (m ((c.tc : Thread nD τ).loc main_arg0)) (m ((c.tc : Thread nD τ).loc main_arg1))
      ∧ r.2.mem ((c.tc : Thread nD τ).loc main_v11) = proj 4096 (by omega) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    obtain ⟨hq, hk, hv, ha⟩ := h c
    exact ⟨hq.trans ((val_main_v6_eq _ _).trans (query_eq _ _)), hk.trans ((val_main_v8_eq _ _).trans (key_eq _ _)),
      hv.trans ((val_main_v11_eq _ _).trans (value_eq _ _)), ha⟩) (Value.run m ρ)

/-- Every run of the reference ends with the arguments as they were and every counter at zero: it has no counter. -/
theorem unchanged : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2.2.2, sem_eq_zero_of_no_sems rfl r.2⟩) (computes m ρ)

end Cert.ReferenceIdeal.QKV

end
-- ==== Proof.lean ====
/-
  The proof of `Cert.Claim`. The kernel, at both instances, and the reference run, leave their arguments as they were and
  end with every counter at zero; and the kernel's query, key and value are the reference's, because both programs'
  results are the three projections of `x` (`Cert.QKV.proj`).

  `Heads` says what the stores of one block product leave, `BodyA`, `BodyB` and `BodyC` what the body does at a point of
  each of the three sweeps of the grid, `Schedule` which block each point works on and when it is written back, `Launch`
  puts these together into the run, `Machine` carries that run over to the kernel at machine floats, `Value` reads the
  three results, and `Reference` those of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Machine
public import proofs.«01_k».proof.Proof.Value
public import proofs.«01_k».proof.Proof.Reference

@[expose] public section

noncomputable section

namespace Cert.Proof

open Idealize.ShloMosaic Idealize.SL.Sem Cert.QKV

/-- From memories that agree on `x` and the weights, the kernel and the reference end with the same query, key and
    value. -/
theorem equal_results : Cert.algebraic_KernelIdeal_ReferenceIdeal (hKernelIdeal := Cert.KernelIdeal.Gen.facts)
    (hReferenceIdeal := Cert.ReferenceIdeal.Gen.facts) := by
  intro m g m' g' _ hargs
  refine ⟨fun c => proj 0 (by decide) (Cert.KernelIdeal.QKV.argX m c) (Cert.KernelIdeal.QKV.argW m c),
    fun c => proj 2048 (by decide) (Cert.KernelIdeal.QKV.argX m c) (Cert.KernelIdeal.QKV.argW m c),
    fun c => proj 4096 (by decide) (Cert.KernelIdeal.QKV.argX m c) (Cert.KernelIdeal.QKV.argW m c),
    Cert.KernelIdeal.QKV.computes m g, ?_⟩
  refine (θ_run _ _ _).mono (fun r h c => ?_) (Cert.ReferenceIdeal.QKV.computes m' g')
  obtain ⟨hq, hk, hv, ha⟩ := h c
  obtain ⟨hx, hw⟩ := hargs c
  exact ⟨hq.trans (congrArg₂ (proj 0 _) hx hw), hk.trans (congrArg₂ (proj 2048 _) hx hw),
    hv.trans (congrArg₂ (proj 4096 _) hx hw), ha⟩

/-- Everything claimed of the kernel and the reference. -/
theorem claim : Cert.Claim :=
  ⟨Cert.Kernel.Gen.facts, Cert.KernelIdeal.Gen.facts, Cert.ReferenceIdeal.Gen.facts,
    Cert.Kernel.QKV.unchanged, fun m g _ => Cert.KernelIdeal.QKV.unchanged m g,
    fun m g _ => Cert.ReferenceIdeal.QKV.unchanged m g, trivial, equal_results⟩

end Cert.Proof

end
